-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x128x256 : Shape := ⟨3, ![1024, 128, 256]⟩
abbrev S1024x3 : Shape := ⟨2, ![1024, 3]⟩
abbrev S128x128x3 : Shape := ⟨3, ![128, 128, 3]⟩
abbrev S128 : Shape := ⟨1, ![128]⟩
abbrev S16x128x1 : Shape := ⟨3, ![16, 128, 1]⟩
abbrev S16 : Shape := ⟨1, ![16]⟩
abbrev S32x128x1 : Shape := ⟨3, ![32, 128, 1]⟩
abbrev S32 : Shape := ⟨1, ![32]⟩
abbrev S128x128x1 : Shape := ⟨3, ![128, 128, 1]⟩
abbrev S128x128 : Shape := ⟨2, ![128, 128]⟩
abbrev S128x384 : Shape := ⟨2, ![128, 384]⟩
abbrev S16x128 : Shape := ⟨2, ![16, 128]⟩
abbrev S32x128 : Shape := ⟨2, ![32, 128]⟩
abbrev S48x128 : Shape := ⟨2, ![48, 128]⟩
abbrev S1x128 : Shape := ⟨2, ![1, 128]⟩
abbrev S48 : Shape := ⟨1, ![48]⟩
abbrev S1x48 : Shape := ⟨2, ![1, 48]⟩
abbrev S1024x16x256 : Shape := ⟨3, ![1024, 16, 256]⟩
abbrev S1024x32x256 : Shape := ⟨3, ![1024, 32, 256]⟩
abbrev S32x128x256 : Shape := ⟨3, ![32, 128, 256]⟩
abbrev S32x16x256 : Shape := ⟨3, ![32, 16, 256]⟩
abbrev S32x32x256 : Shape := ⟨3, ![32, 32, 256]⟩
abbrev S128x1 : Shape := ⟨2, ![128, 1]⟩
abbrev S48x1 : Shape := ⟨2, ![48, 1]⟩
abbrev S1x128x256 : Shape := ⟨3, ![1, 128, 256]⟩
abbrev S128x256 : Shape := ⟨2, ![128, 256]⟩
abbrev S128x255 : Shape := ⟨2, ![128, 255]⟩
abbrev S384x256 : Shape := ⟨2, ![384, 256]⟩
abbrev S384x8192 : Shape := ⟨2, ![384, 8192]⟩
abbrev S128x8192 : Shape := ⟨2, ![128, 8192]⟩
abbrev S48x8192 : Shape := ⟨2, ![48, 8192]⟩
abbrev S16x256 : Shape := ⟨2, ![16, 256]⟩
abbrev S1x16x256 : Shape := ⟨3, ![1, 16, 256]⟩
abbrev S32x256 : Shape := ⟨2, ![32, 256]⟩
abbrev S1x32x256 : Shape := ⟨3, ![1, 32, 256]⟩

abbrev nBuf : Space → Nat
  | .hbm => 25
  | .vmem => 10
  | .smem => 0
  | _ => 0

abbrev bufTy : (tb : Table) → Fin (tcTables nBuf tb) → BufTy
  | .hbm, ⟨0, _⟩ => ⟨S1024x128x256, .f32⟩
  | .hbm, ⟨1, _⟩ => ⟨S1024x3, .i32⟩
  | .hbm, ⟨2, _⟩ => ⟨S128x128x3, .f32⟩
  | .hbm, ⟨3, _⟩ => ⟨S128, .f32⟩
  | .hbm, ⟨4, _⟩ => ⟨S16x128x1, .f32⟩
  | .hbm, ⟨5, _⟩ => ⟨S16, .f32⟩
  | .hbm, ⟨6, _⟩ => ⟨S32x128x1, .f32⟩
  | .hbm, ⟨7, _⟩ => ⟨S32, .f32⟩
  | .hbm, ⟨8, _⟩ => ⟨S128x128x1, .f32⟩
  | .hbm, ⟨9, _⟩ => ⟨S128x128, .f32⟩
  | .hbm, ⟨10, _⟩ => ⟨S128x128x1, .f32⟩
  | .hbm, ⟨11, _⟩ => ⟨S128x128, .f32⟩
  | .hbm, ⟨12, _⟩ => ⟨S128x128x1, .f32⟩
  | .hbm, ⟨13, _⟩ => ⟨S128x128, .f32⟩
  | .hbm, ⟨14, _⟩ => ⟨S128x384, .f32⟩
  | .hbm, ⟨15, _⟩ => ⟨S128x384, .bf16⟩
  | .hbm, ⟨16, _⟩ => ⟨S16x128, .f32⟩
  | .hbm, ⟨17, _⟩ => ⟨S32x128, .f32⟩
  | .hbm, ⟨18, _⟩ => ⟨S48x128, .f32⟩
  | .hbm, ⟨19, _⟩ => ⟨S48x128, .bf16⟩
  | .hbm, ⟨20, _⟩ => ⟨S1x128, .f32⟩
  | .hbm, ⟨21, _⟩ => ⟨S48, .f32⟩
  | .hbm, ⟨22, _⟩ => ⟨S1x48, .f32⟩
  | .hbm, ⟨23, _⟩ => ⟨S1024x16x256, .f32⟩
  | .hbm, ⟨24, _⟩ => ⟨S1024x32x256, .f32⟩
  | .local _ .vmem, ⟨0, _⟩ => ⟨S32x128x256, .f32⟩
  | .local _ .vmem, ⟨1, _⟩ => ⟨S32x128x256, .f32⟩
  | .local _ .vmem, ⟨2, _⟩ => ⟨S128x384, .bf16⟩
  | .local _ .vmem, ⟨3, _⟩ => ⟨S1x128, .f32⟩
  | .local _ .vmem, ⟨4, _⟩ => ⟨S48x128, .bf16⟩
  | .local _ .vmem, ⟨5, _⟩ => ⟨S1x48, .f32⟩
  | .local _ .vmem, ⟨6, _⟩ => ⟨S32x16x256, .f32⟩
  | .local _ .vmem, ⟨7, _⟩ => ⟨S32x16x256, .f32⟩
  | .local _ .vmem, ⟨8, _⟩ => ⟨S32x32x256, .f32⟩
  | .local _ .vmem, ⟨9, _⟩ => ⟨S32x32x256, .f32⟩
  | _, _ => ⟨S1024x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S48x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x48 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32x16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x32x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S1024x128x256 : Shape := ⟨3, ![1024, 128, 256]⟩
abbrev S1024x3 : Shape := ⟨2, ![1024, 3]⟩
abbrev S128x128x3 : Shape := ⟨3, ![128, 128, 3]⟩
abbrev S128 : Shape := ⟨1, ![128]⟩
abbrev S16x128x1 : Shape := ⟨3, ![16, 128, 1]⟩
abbrev S16 : Shape := ⟨1, ![16]⟩
abbrev S32x128x1 : Shape := ⟨3, ![32, 128, 1]⟩
abbrev S32 : Shape := ⟨1, ![32]⟩
abbrev S_ : Shape := ⟨0, ![]⟩
abbrev S1024x128x258 : Shape := ⟨3, ![1024, 128, 258]⟩
abbrev S128x128x1 : Shape := ⟨3, ![128, 128, 1]⟩
abbrev S128x128 : Shape := ⟨2, ![128, 128]⟩
abbrev S1024x256x128 : Shape := ⟨3, ![1024, 256, 128]⟩
abbrev S1x128x1 : Shape := ⟨3, ![1, 128, 1]⟩
abbrev S16x128 : Shape := ⟨2, ![16, 128]⟩
abbrev S1024x256x16 : Shape := ⟨3, ![1024, 256, 16]⟩
abbrev S1024x16x256 : Shape := ⟨3, ![1024, 16, 256]⟩
abbrev S1x16x1 : Shape := ⟨3, ![1, 16, 1]⟩
abbrev S32x128 : Shape := ⟨2, ![32, 128]⟩
abbrev S1024x256x32 : Shape := ⟨3, ![1024, 256, 32]⟩
abbrev S1024x32x256 : Shape := ⟨3, ![1024, 32, 256]⟩
abbrev S1x32x1 : Shape := ⟨3, ![1, 32, 1]⟩

abbrev nBuf : Space → Nat
  | .hbm => 52
  | .vmem => 0
  | .smem => 0
  | _ => 0

abbrev bufTy : (tb : Table) → Fin (tcTables nBuf tb) → BufTy
  | .hbm, ⟨0, _⟩ => ⟨S1024x128x256, .f32⟩
  | .hbm, ⟨1, _⟩ => ⟨S1024x3, .i32⟩
  | .hbm, ⟨2, _⟩ => ⟨S128x128x3, .f32⟩
  | .hbm, ⟨3, _⟩ => ⟨S128, .f32⟩
  | .hbm, ⟨4, _⟩ => ⟨S16x128x1, .f32⟩
  | .hbm, ⟨5, _⟩ => ⟨S16, .f32⟩
  | .hbm, ⟨6, _⟩ => ⟨S32x128x1, .f32⟩
  | .hbm, ⟨7, _⟩ => ⟨S32, .f32⟩
  | .hbm, ⟨8, _⟩ => ⟨S_, .i32⟩
  | .hbm, ⟨9, _⟩ => ⟨S_, .f32⟩
  | .hbm, ⟨10, _⟩ => ⟨S1024x128x258, .f32⟩
  | .hbm, ⟨11, _⟩ => ⟨S128x128x1, .f32⟩
  | .hbm, ⟨12, _⟩ => ⟨S128x128, .f32⟩
  | .hbm, ⟨13, _⟩ => ⟨S1024x128x256, .f32⟩
  | .hbm, ⟨14, _⟩ => ⟨S1024x256x128, .f32⟩
  | .hbm, ⟨15, _⟩ => ⟨S1024x128x256, .f32⟩
  | .hbm, ⟨16, _⟩ => ⟨S128x128x1, .f32⟩
  | .hbm, ⟨17, _⟩ => ⟨S128x128, .f32⟩
  | .hbm, ⟨18, _⟩ => ⟨S1024x128x256, .f32⟩
  | .hbm, ⟨19, _⟩ => ⟨S1024x256x128, .f32⟩
  | .hbm, ⟨20, _⟩ => ⟨S1024x128x256, .f32⟩
  | .hbm, ⟨21, _⟩ => ⟨S1024x128x256, .f32⟩
  | .hbm, ⟨22, _⟩ => ⟨S128x128x1, .f32⟩
  | .hbm, ⟨23, _⟩ => ⟨S128x128, .f32⟩
  | .hbm, ⟨24, _⟩ => ⟨S1024x128x256, .f32⟩
  | .hbm, ⟨25, _⟩ => ⟨S1024x256x128, .f32⟩
  | .hbm, ⟨26, _⟩ => ⟨S1024x128x256, .f32⟩
  | .hbm, ⟨27, _⟩ => ⟨S1024x128x256, .f32⟩
  | .hbm, ⟨28, _⟩ => ⟨S1x128x1, .f32⟩
  | .hbm, ⟨29, _⟩ => ⟨S1024x128x256, .f32⟩
  | .hbm, ⟨30, _⟩ => ⟨S1024x128x256, .f32⟩
  | .hbm, ⟨31, _⟩ => ⟨S_, .f32⟩
  | .hbm, ⟨32, _⟩ => ⟨S1024x128x256, .f32⟩
  | .hbm, ⟨33, _⟩ => ⟨S1024x128x256, .f32⟩
  | .hbm, ⟨34, _⟩ => ⟨S_, .i32⟩
  | .hbm, ⟨35, _⟩ => ⟨S_, .f32⟩
  | .hbm, ⟨36, _⟩ => ⟨S1024x128x256, .f32⟩
  | .hbm, ⟨37, _⟩ => ⟨S16x128, .f32⟩
  | .hbm, ⟨38, _⟩ => ⟨S1024x256x16, .f32⟩
  | .hbm, ⟨39, _⟩ => ⟨S1024x16x256, .f32⟩
  | .hbm, ⟨40, _⟩ => ⟨S1x16x1, .f32⟩
  | .hbm, ⟨41, _⟩ => ⟨S1024x16x256, .f32⟩
  | .hbm, ⟨42, _⟩ => ⟨S1024x16x256, .f32⟩
  | .hbm, ⟨43, _⟩ => ⟨S_, .i32⟩
  | .hbm, ⟨44, _⟩ => ⟨S_, .f32⟩
  | .hbm, ⟨45, _⟩ => ⟨S1024x128x256, .f32⟩
  | .hbm, ⟨46, _⟩ => ⟨S32x128, .f32⟩
  | .hbm, ⟨47, _⟩ => ⟨S1024x256x32, .f32⟩
  | .hbm, ⟨48, _⟩ => ⟨S1024x32x256, .f32⟩
  | .hbm, ⟨49, _⟩ => ⟨S1x32x1, .f32⟩
  | .hbm, ⟨50, _⟩ => ⟨S1024x32x256, .f32⟩
  | .hbm, ⟨51, _⟩ => ⟨S1024x32x256, .f32⟩
  | _, _ => ⟨S1024x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call1_cst : Ref sig .tc := ⟨.hbm, 31, rfl⟩
abbrev main_call1_v0 : Ref sig .tc := ⟨.hbm, 32, rfl⟩
abbrev main_v21 : Ref sig .tc := ⟨.hbm, 33, rfl⟩
abbrev main_c_0 : Ref sig .tc := ⟨.hbm, 34, rfl⟩
abbrev main_call2_v0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_1 : Ref sig .tc := ⟨.hbm, 43, rfl⟩
abbrev main_call3_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩

abbrev nD : Nat := 1
abbrev τ : Topo := Topo.v7x

variable {F : FTy → Type} [FloatOps F]
-- ==== Proof.Spec.lean ====
/-
  What both programs compute, in plain numbers: a convolution of width three with zero padding, a bias, the positive part,
  and a pointwise head (a weighted sum over the 128 channels plus a bias). Everything is stated over the extended reals.
-/
module

public import Idealize.ShloMosaic.Lib.Pointwise

@[expose] public section

noncomputable section

namespace Cert.Dpn

open Idealize.ShloMosaic

/-- A rank-three array read at two indices with the same coordinates. -/
theorem read3 {α : Type} {n0 n1 n2 : ℕ} (x : (⟨3, ![n0, n1, n2]⟩ : Shape).Idx → α) {a a' : Fin n0} {b b' : Fin n1} {c c' : Fin n2}
    (ha : a.val = a'.val) (hb : b.val = b'.val) (hc : c.val = c'.val) : x (ix3 a b c) = x (ix3 a' b' c') := by
  rw [Fin.ext ha, Fin.ext hb, Fin.ext hc]

/-- A row of 256 numbers with one zero put before it and one after it: position `u` of the 258. -/
def padded (f : Fin 256 → EReal) (u : ℕ) : EReal :=
  if h : 1 ≤ u ∧ u ≤ 256 then f ⟨u - 1, by omega⟩ else 0

/-- One hidden value: channel `o` at time `t` of the three-tap convolution of the 128 rows `x`, plus the bias, or zero
    where that is negative. -/
def hidden (x : Fin 128 → Fin 256 → EReal) (w : Fin 128 → Fin 3 → EReal) (b : EReal) (t : ℕ) : EReal :=
  max ((∑ i, w i 0 * padded (x i) t) + (∑ i, w i 1 * padded (x i) (t + 1)) + (∑ i, w i 2 * padded (x i) (t + 2)) + b) 0

/-- A pointwise head: the weighted sum of the 128 hidden values, plus a bias. -/
def head (w : Fin 128 → EReal) (b : EReal) (h : Fin 128 → EReal) : EReal := (∑ o, w o * h o) + b

/-- A head depends on its weights, bias and hidden values only. -/
theorem head_congr {w w' : Fin 128 → EReal} {b b' : EReal} {h h' : Fin 128 → EReal} (hw : ∀ o, w o = w' o) (hb : b = b')
    (hh : ∀ o, h o = h' o) : head w b h = head w' b' h' := by
  rw [funext hw, hb, funext hh]

/-- A hidden value depends on the sample, the weights and the bias only. -/
theorem hidden_congr {x x' : Fin 128 → Fin 256 → EReal} {w w' : Fin 128 → Fin 3 → EReal} {b b' : EReal} (t : ℕ)
    (hx : ∀ i s, x i s = x' i s) (hw : ∀ i k, w i k = w' i k) (hb : b = b') : hidden x w b t = hidden x' w' b' t := by
  rw [funext fun i => funext (hx i), funext fun i => funext (hw i), hb]

/-- A head with `W` outputs over the whole batch: output `j 1` of sample `j 0` at time `j 2`. -/
def spec {W : ℕ} (x : FVec Ideal ⟨3, ![1024, 128, 256]⟩ .f32) (w : FVec Ideal ⟨3, ![128, 128, 3]⟩ .f32)
    (b : FVec Ideal ⟨1, ![128]⟩ .f32) (hw : FVec Ideal ⟨3, ![W, 128, 1]⟩ .f32) (hb : FVec Ideal ⟨1, ![W]⟩ .f32) :
    FVec Ideal ⟨3, ![1024, W, 256]⟩ .f32 := fun j =>
  head (fun o => hw (ix3 (j 1 : Fin W) o 0)) (hb (ix1 (j 1 : Fin W)))
    fun o => hidden (fun i s => x (ix3 (j 0) i s)) (fun i k => w (ix3 o i k)) (b (ix1 o)) (j 2).val

end Cert.Dpn

end
-- ==== Proof.Cols.lean ====
/-
  What the kernel's body puts before its first product for one sample, read at an index: the 384 rows are the 128 rows of
  the sample three times over, shifted right by one with a zero first, as they are, and shifted left by one with a zero last.
-/
module

public import proofs.«01_k».proof.Proof.Spec
public import proofs.«01_k».proof.Proof.Gen.KernelIdeal.Skeleton
public import Idealize.ShloMosaic.Lib.Pipeline.Value

@[expose] public section

set_option maxRecDepth 16384

noncomputable section

namespace Cert.Dpn

open Idealize.ShloMosaic Idealize.SL.Sem
open Cert.KernelIdeal Cert.KernelIdeal.Gen

/-- Row `k` of the 384 at time `t`: row `k % 128` of the sample, padded, at position `t + k / 128`. -/
theorem cols_apply (x : Vec Ideal S1x128x256 .f32) (k : Fin 384) (t : Fin 256) :
    k0_pay8 (F := Ideal) x (ix2 k t)
      = padded (fun s => x (ix3 0 ⟨k.val % 128, Nat.mod_lt _ (by norm_num)⟩ s)) (t.val + k.val / 128) := by
  pointwise [k0_pay8, k0_pay7, padded]
  have hk := k.isLt
  have ht := t.isLt
  split_ifs
  all_goals first
    | rfl
    | (exfalso; omega)
    | (rw [dif_pos (by omega)]; refine read3 x rfl ?_ ?_ <;> (dsimp only; omega))
    | (refine read3 x rfl ?_ ?_ <;> (dsimp only; omega))

end Cert.Dpn

end
-- ==== Proof.Block.lean ====
/-
  What one run of the kernel's body leaves: the 32 samples' columns side by side, one product with the three taps' weights, the
  bias and positive part, one product with both heads' weights, and the heads' bias; then read at an index over the extended reals.
-/
module

public import proofs.«01_k».proof.Proof.Cols
public import proofs.«01_k».proof.Proof.Gen.KernelIdeal.Value
public import Idealize.ShloMosaic.Lib.MatmulPlain

@[expose] public section

set_option maxRecDepth 16384

noncomputable section

namespace Cert.Dpn

open Idealize.ShloMosaic Idealize.SL.Sem
open Cert.KernelIdeal Cert.KernelIdeal.Gen

variable {F : FTy → Type} [FloatOps F]

/-- Sample `b` of the block, as the one-sample rectangle the body loads. -/
theorem row_inb (b : Fin 32) : ∀ a : Fin 3, (![b.val, 0, 0] : Fin 3 → ℕ) a + S1x128x256.size a ≤ S32x128x256.size a := by
  have := b.isLt
  intro a
  match a with
  | ⟨0, _⟩ => show b.val + 1 ≤ 32; omega
  | ⟨1, _⟩ => show 0 + 128 ≤ 128; omega
  | ⟨2, _⟩ => show 0 + 256 ≤ 256; omega

/-- The columns of sample `b` of the block. -/
def colsOf (x0 : Vec F S32x128x256 .f32) (b : Fin 32) : FVec F S384x256 .bf16 :=
  k0_pay8 (View.ld x0 (Rect.unit ![b.val, 0, 0] S1x128x256.size (row_inb b)))

/-- The 32 samples' columns fit side by side. -/
theorem concat_colsOf (x0 : Vec F S32x128x256 .f32) : Shape.Concatenates
    ((List.ofFn fun b : Fin 32 => (⟨S384x256, colsOf x0 b⟩ : (s : Shape) × FVec F s .bf16)).map (·.1)) S384x8192 1 := by
  simp only [List.map_ofFn]
  exact (by decide : Shape.Concatenates (List.ofFn fun _ : Fin 32 => S384x256) S384x8192 1)

/-- The 32 samples' columns side by side. -/
def colsAll (x0 : Vec F S32x128x256 .f32) : FVec F S384x8192 .bf16 :=
  concatenate S384x8192 1 (List.ofFn fun b : Fin 32 => ⟨S384x256, colsOf x0 b⟩) (concat_colsOf x0)

/-- Both heads over all 32 samples, from the samples' columns. -/
def heads (X : FVec F S384x8192 .bf16) (x1 : Vec F S128x384 .bf16) (x2 : Vec F S1x128 .f32)
    (x3 : Vec F S48x128 .bf16) (x4 : Vec F S1x48 .f32) : FVec F S48x8192 .f32 :=
  addf (matmul dot_S48x128_S128x8192_S48x8192_1_0_0_1_n_n none (k0_pay4 x3)
      (maximumf (addf (truncf .bf16 (matmul dot_S128x384_S384x8192_S128x8192_1_0_0_1_n_n none (k0_pay3 x1) X
          (constant S128x8192 .f32 0x00000000#32)) bitsLt_bf16_f32)
        (broadcastTo S128x8192 (truncf .bf16 (k0_pay5 x2) bitsLt_bf16_f32) broadcasts_S128x1_S128x8192))
        (broadcast S128x8192 (Scalar.ofBits .bf16 0x0000#16)))
      (constant S48x8192 .f32 0x00000000#32))
    (broadcastTo S48x8192 (k0_pay6 x4) broadcasts_S48x1_S48x8192)

/-- The body's value before its stores is the heads of the columns side by side. -/
theorem pay156_eq (x0 : Vec F S32x128x256 .f32) (x1 : Vec F S128x384 .bf16) (x2 : Vec F S1x128 .f32)
    (x3 : Vec F S48x128 .bf16) (x4 : Vec F S1x48 .f32) :
    k0_pay156 x0 x1 x2 x3 x4 = heads (colsAll x0) (View.ld x1 r0_0) (View.ld x2 r0_2) (View.ld x3 r0_1) (View.ld x4 r0_3) := rfl

/-- The first result's block holds rows 0 to 15 of the heads, sample by sample. -/
theorem out5_eq (x0 : Vec F S32x128x256 .f32) (x1 : Vec F S128x384 .bf16) (x2 : Vec F S1x128 .f32)
    (x3 : Vec F S48x128 .bf16) (x4 : Vec F S1x48 .f32) (y : S32x16x256.Idx) :
    out0_5 x0 x1 x2 x3 x4 y = k0_pay156 x0 x1 x2 x3 x4 (KernelIdeal.Value.ix5_0 y) :=
  KernelIdeal.Value.canon5_eq _ _ _ _ _ _ _ _ _ _ _ _ _ _ _ _ _ _ _ _ _ _ _ _ _ _ _ _ _ _ _ _ _ _ _ _ y

/-- The second result's block holds rows 16 to 47 of the heads, sample by sample. -/
theorem out6_eq (x0 : Vec F S32x128x256 .f32) (x1 : Vec F S128x384 .bf16) (x2 : Vec F S1x128 .f32)
    (x3 : Vec F S48x128 .bf16) (x4 : Vec F S1x48 .f32) (y : S32x32x256.Idx) :
    out0_6 x0 x1 x2 x3 x4 y = k0_pay156 x0 x1 x2 x3 x4 (KernelIdeal.Value.ix6_0 y) :=
  KernelIdeal.Value.canon6_eq _ _ _ _ _ _ _ _ _ _ _ _ _ _ _ _ _ _ _ _ _ _ _ _ _ _ _ _ _ _ _ _ _ _ _ _ y

/-- A sum over 384 rows is the sum over the first, the second and the third 128 of them. -/
theorem sum_three (f : Fin 384 → EReal) :
    ∑ k, f k = (∑ i : Fin 128, f ⟨i.val, by omega⟩) + (∑ i : Fin 128, f ⟨128 + i.val, by omega⟩)
      + ∑ i : Fin 128, f ⟨256 + i.val, by omega⟩ := by
  rw [Fin.sum_univ_add (a := 256) (b := 128) f, Fin.sum_univ_add (a := 128) (b := 128) fun k => f (Fin.castAdd 128 k)]
  rfl

/-- Column `b * 256 + t` of the columns side by side is column `t` of sample `b`. -/
theorem colsAll_apply (x0 : Vec Ideal S32x128x256 .f32) (k : Fin 384) (b : Fin 32) (t : Fin 256) :
    colsAll (F := Ideal) x0 (ix2 k ⟨b.val * 256 + t.val, by omega⟩)
      = padded (fun s => x0 (ix3 b ⟨k.val % 128, Nat.mod_lt _ (by norm_num)⟩ s)) (t.val + k.val / 128) := by
  have ht := t.isLt
  refine (concatenate_ofFn_apply (s₁ := S384x256) (t := S384x8192) 1 (colsOf (F := Ideal) x0) (concat_colsOf x0) rfl 256 rfl _ b
    (by show (b.val * 256 + t.val) / 256 = b.val; omega) (ix2 k t) (by show t.val = (b.val * 256 + t.val) % 256; omega) ?_).trans ?_
  · intro a ha
    match a with
    | ⟨0, _⟩ => rfl
    | ⟨1, _⟩ => exact absurd rfl ha
  · refine (cols_apply _ k t).trans ?_
    refine congrArg (padded · _) (funext fun s => ?_)
    pointwise

/-- The heads over the extended reals, at head row `w`, sample `b` and time `t`. -/
theorem heads_apply (x0 : Vec Ideal S32x128x256 .f32) (x1 : Vec Ideal S128x384 .bf16) (x2 : Vec Ideal S1x128 .f32)
    (x3 : Vec Ideal S48x128 .bf16) (x4 : Vec Ideal S1x48 .f32) (w : Fin 48) (b : Fin 32) (t : Fin 256) :
    heads (F := Ideal) (colsAll x0) x1 x2 x3 x4 (ix2 w ⟨b.val * 256 + t.val, by omega⟩)
      = head (fun o => x3 (ix2 w o)) (x4 (ix2 0 w)) fun o =>
          hidden (fun i s => x0 (ix3 b i s)) (fun i k => x1 (ix2 o ⟨k.val * 128 + i.val, by omega⟩)) (x2 (ix2 0 o)) t.val := by
  generalize hX : colsAll (F := Ideal) x0 = X
  pointwise [heads, head, k0_pay3, k0_pay4, k0_pay5, k0_pay6]
  subst hX
  refine congrArg (· + _) (Finset.sum_congr rfl fun o _ => congrArg (_ * ·) ?_)
  unfold hidden
  refine congrArg (fun r => max (r + _) 0) ?_
  rw [sum_three]
  simp only [colsAll_apply]
  have e0 : ∀ i : Fin 128, i.val % 128 = i.val ∧ i.val / 128 = 0 ∧ (128 + i.val) % 128 = i.val ∧ (128 + i.val) / 128 = 1
      ∧ (256 + i.val) % 128 = i.val ∧ (256 + i.val) / 128 = 2 := fun i => by have := i.isLt; omega
  refine congrArg₂ (· + ·) (congrArg₂ (· + ·) ?_ ?_) ?_ <;> refine Finset.sum_congr rfl fun i _ => ?_
  · simp only [e0, Fin.val_zero, zero_mul, zero_add, add_zero, Fin.eta]
  · simp only [e0, Fin.val_one, one_mul, Fin.eta]
  · simp only [e0, Fin.val_two, Fin.eta, Nat.reduceMul]

end Cert.Dpn

end
-- ==== Proof.Entry.lean ====
/-
  What the kernel's call is handed, over the extended reals: the weights the host lays side by side, read back at the arguments'
  own indices; and each grid point's block of every operand.
-/
module

public import proofs.«01_k».proof.Proof.Spec
public import proofs.«01_k».proof.Proof.Gen.KernelIdeal.Value
public import Idealize.ShloMosaic.Lib.StableHlo.Run

@[expose] public section

set_option maxRecDepth 16384

noncomputable section

namespace Cert.Dpn

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The arguments as launched, on device `c`: the samples. -/
abbrev argX : FVec Ideal ⟨3, ![1024, 128, 256]⟩ .f32 := m ((c : Thread nD τ).loc main_arg0)
/-- The convolution's weights. -/
abbrev argW : FVec Ideal ⟨3, ![128, 128, 3]⟩ .f32 := m ((c : Thread nD τ).loc main_arg2)
/-- The convolution's bias. -/
abbrev argB : FVec Ideal ⟨1, ![128]⟩ .f32 := m ((c : Thread nD τ).loc main_arg3)
/-- The first head's weights. -/
abbrev argRW : FVec Ideal ⟨3, ![16, 128, 1]⟩ .f32 := m ((c : Thread nD τ).loc main_arg4)
/-- The first head's bias. -/
abbrev argRB : FVec Ideal ⟨1, ![16]⟩ .f32 := m ((c : Thread nD τ).loc main_arg5)
/-- The second head's weights. -/
abbrev argDW : FVec Ideal ⟨3, ![32, 128, 1]⟩ .f32 := m ((c : Thread nD τ).loc main_arg6)
/-- The second head's bias. -/
abbrev argDB : FVec Ideal ⟨1, ![32]⟩ .f32 := m ((c : Thread nD τ).loc main_arg7)

/-- One tap of the weights as the host cuts it out. -/
abbrev tap (off : Fin 3 → ℕ) (h : S128x128x3.Slices off S128x128x1) : FVec Ideal S128x128 .f32 :=
  shapeCast S128x128 (extractStridedSlice S128x128x1 off (argW m c) h) shapeCasts_S128x128x1_S128x128

/-- The three taps' weights as the host lays them side by side. -/
theorem taps_eq : V m c main_v7 = truncf .bf16 (concatenate S128x384 1
    [⟨S128x128, tap m c ![0, 0, 0] slices_S128x128x3_S128x128x1_0_0_0⟩,
      ⟨S128x128, tap m c ![0, 0, 1] slices_S128x128x3_S128x128x1_0_0_1⟩,
      ⟨S128x128, tap m c ![0, 0, 2] slices_S128x128x3_S128x128x1_0_0_2⟩]
    concatenates_S128x128_S128x128_S128x128_S128x384_d1) bitsLt_bf16_f32 := by
  show StableHlo.after hostOps0 (fun b => m (c, b)) (Proc.devRef .tc main_v7) = _
  simp only [hostOps0, List.flatten_cons, List.flatten_nil, List.append_nil, List.cons_append, List.nil_append]
  after_results
  dsimp only [Matrix.cons_val]
  simp only [↓ StableHlo.readResult, ↓ StableHlo.readPieces]
  rfl

/-- The three taps' weights side by side: column `k * 128 + i` holds tap `k` of input channel `i`. -/
theorem taps_apply (o : Fin 128) (k : Fin 3) (i : Fin 128) :
    V m c main_v7 (ix2 o ⟨k.val * 128 + i.val, by omega⟩) = argW m c (ix3 o i k) := by
  rw [taps_eq]
  pointwise [tap]
  have hk := k.isLt
  have hi := i.isLt
  split_ifs <;> refine read3 (argW m c) rfl ?_ ?_ <;> first | (show _ = k.val; simp; omega) | (dsimp only; omega)

/-- Both heads' weights as the host lays them one over the other. -/
theorem headW_eq : V m c main_v11 = truncf .bf16 (concatenate S48x128 0
    [⟨S16x128, shapeCast S16x128 (argRW m c) shapeCasts_S16x128x1_S16x128⟩,
      ⟨S32x128, shapeCast S32x128 (argDW m c) shapeCasts_S32x128x1_S32x128⟩]
    concatenates_S16x128_S32x128_S48x128_d0) bitsLt_bf16_f32 := by
  show StableHlo.after hostOps0 (fun b => m (c, b)) (Proc.devRef .tc main_v11) = _
  simp only [hostOps0, List.flatten_cons, List.flatten_nil, List.append_nil, List.cons_append, List.nil_append]
  after_results
  rfl

/-- The convolution's bias as the host lays it out. -/
theorem convB_eq : V m c main_v12 = broadcastInDim S1x128 ![1] bcast_S128_S1x128_1 (argB m c) := by
  show StableHlo.after hostOps0 (fun b => m (c, b)) (Proc.devRef .tc main_v12) = _
  simp only [hostOps0, List.flatten_cons, List.flatten_nil, List.append_nil, List.cons_append, List.nil_append]
  after_results

/-- Both heads' biases as the host lays them out. -/
theorem headB_eq : V m c main_v14 = broadcastInDim S1x48 ![1] bcast_S48_S1x48_1 (concatenate S48 0
    [⟨S16, argRB m c⟩, ⟨S32, argDB m c⟩] concatenates_S16_S32_S48_d0) := by
  show StableHlo.after hostOps0 (fun b => m (c, b)) (Proc.devRef .tc main_v14) = _
  simp only [hostOps0, List.flatten_cons, List.flatten_nil, List.append_nil, List.cons_append, List.nil_append]
  after_results

/-- Row `r` of the heads' weights: the first head's for the first 16 rows, the second's for the other 32. -/
theorem headW_apply (o : Fin 128) (r : Fin 48) : V m c main_v11 (ix2 r o) =
    if h : r.val < 16 then argRW m c (ix3 ⟨r.val, h⟩ o 0) else argDW m c (ix3 ⟨r.val - 16, by omega⟩ o 0) := by
  rw [headW_eq]
  pointwise

/-- Entry `r` of the heads' biases: the first head's for the first 16, the second's for the other 32. -/
theorem headB_apply (r : Fin 48) : V m c main_v14 (ix2 0 r) =
    if h : r.val < 16 then argRB m c (ix1 ⟨r.val, h⟩) else argDB m c (ix1 ⟨r.val - 16, by omega⟩) := by
  rw [headB_eq]
  pointwise

/-- The convolution's bias at channel `o`. -/
theorem convB_apply (o : Fin 128) : V m c main_v12 (ix2 0 o) = argB m c (ix1 o) := by
  rw [convB_eq]
  pointwise

/-- Grid point `t`'s block of the samples: sample `b` of the block is sample `32 t + b` of the batch. -/
theorem blockX (t : Fin cfg0.N) (b : Fin 32) (i : Fin 128) (s : Fin 256) :
    (iblk m c 0 t : Vec Ideal S32x128x256 .f32) (ix3 b i s)
      = argX m c (ix3 ⟨t.val * 32 + b.val, by have := t.isLt; have : cfg0.N = 32 := N_0; omega⟩ i s) := by
  unfold iblk
  rw [show V m c (Pipeline.arrRef spec0 0) = argX m c from V_main_arg0 m c]
  show argX m c _ = _
  refine congrArg (argX m c) (funext fun a => Fin.ext ?_)
  have h0 : win0_0.index t 0 = t.val := (by decide +kernel : ∀ t : Fin grid0.N, win0_0.index t 0 = t.val) t
  match a with
  | ⟨0, _⟩ => show win0_0.index t 0 * 32 + 1 * b.val = t.val * 32 + b.val; rw [h0]; omega
  | ⟨1, _⟩ => show 0 * 128 + 1 * i.val = i.val; omega
  | ⟨2, _⟩ => show 0 * 256 + 1 * s.val = s.val; omega

/-- Every grid point is handed the whole of the three taps' weights. -/
theorem blockTaps (t : Fin cfg0.N) : iblk m c 1 t = V m c main_v7 :=
  Memref.read_access_unit_zero (Elt Ideal) main_v7 (funext fun a => by fin_cases a <;> rfl) _ _

/-- Every grid point is handed the whole of the convolution's bias. -/
theorem blockConvB (t : Fin cfg0.N) : iblk m c 2 t = V m c main_v12 :=
  Memref.read_access_unit_zero (Elt Ideal) main_v12 (funext fun a => by fin_cases a <;> rfl) _ _

/-- Every grid point is handed the whole of the heads' weights. -/
theorem blockHeadW (t : Fin cfg0.N) : iblk m c 3 t = V m c main_v11 :=
  Memref.read_access_unit_zero (Elt Ideal) main_v11 (funext fun a => by fin_cases a <;> rfl) _ _

/-- Every grid point is handed the whole of the heads' biases. -/
theorem blockHeadB (t : Fin cfg0.N) : iblk m c 4 t = V m c main_v14 :=
  Memref.read_access_unit_zero (Elt Ideal) main_v14 (funext fun a => by fin_cases a <;> rfl) _ _

end Cert.Dpn

end
-- ==== Proof.Array.lean ====
/-
  What the kernel's two result arrays hold after the run, over the extended reals: the two heads of the specification, at the
  kernel's own arguments. Each grid point writes its own 32 samples, and the 32 points cover the batch.
-/
module

public import proofs.«01_k».proof.Proof.Block
public import proofs.«01_k».proof.Proof.Entry

@[expose] public section

set_option maxRecDepth 16384

noncomputable section

namespace Cert.Dpn

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The body's value before its stores, over the extended reals, at head row `w`, sample `b` of the block and time `t`. -/
theorem pay156_apply (x0 : Vec Ideal S32x128x256 .f32) (x1 : Vec Ideal S128x384 .bf16) (x2 : Vec Ideal S1x128 .f32)
    (x3 : Vec Ideal S48x128 .bf16) (x4 : Vec Ideal S1x48 .f32) (w : Fin 48) (b : Fin 32) (t : Fin 256) :
    k0_pay156 (F := Ideal) x0 x1 x2 x3 x4 (ix2 w ⟨b.val * 256 + t.val, by omega⟩)
      = head (fun o => x3 (ix2 w o)) (x4 (ix2 0 w)) fun o =>
          hidden (fun i s => x0 (ix3 b i s)) (fun i k => x1 (ix2 o ⟨k.val * 128 + i.val, by omega⟩)) (x2 (ix2 0 o)) t.val := by
  have hz : (![0, 0] : Fin 2 → ℕ) = fun _ => 0 := funext fun a => by fin_cases a <;> rfl
  rw [pay156_eq, View.ld_unit_zero hz, View.ld_unit_zero hz, View.ld_unit_zero hz, View.ld_unit_zero hz]
  exact heads_apply x0 x1 x2 x3 x4 w b t

/-- The same value at grid point `T`, in the kernel's arguments: head row `w` of sample `32 T + b` at time `t`. -/
theorem point_apply (T : Fin cfg0.N) (w : Fin 48) (b : Fin 32) (t : Fin 256) (n : Fin 1024) (hn : n.val = T.val * 32 + b.val) :
    k0_pay156 (F := Ideal) (iblk m c 0 T) (iblk m c 1 T) (iblk m c 2 T) (iblk m c 3 T) (iblk m c 4 T)
        (ix2 w ⟨b.val * 256 + t.val, by omega⟩)
      = head (fun o => if h : w.val < 16 then argRW m c (ix3 ⟨w.val, h⟩ o 0) else argDW m c (ix3 ⟨w.val - 16, by omega⟩ o 0))
          (if h : w.val < 16 then argRB m c (ix1 ⟨w.val, h⟩) else argDB m c (ix1 ⟨w.val - 16, by omega⟩))
          fun o => hidden (fun i s => argX m c (ix3 n i s)) (fun i k => argW m c (ix3 o i k)) (argB m c (ix1 o)) t.val := by
  rw [blockTaps, blockConvB, blockHeadW, blockHeadB]
  refine (pay156_apply _ _ _ _ _ w b t).trans ?_
  exact head_congr (fun o => headW_apply m c o w) (headB_apply m c w) fun o =>
    hidden_congr t.val (fun i s => (blockX m c T b i s).trans (read3 (argX m c) hn.symm rfl rfl)) (fun i k => taps_apply m c o k i) (convB_apply m c o)

/-- What grid point `T` writes of the first result is its block of the specification's first head. -/
theorem flushed_rel (T : Fin cfg0.N) :
    (dats m 0 c).flushed 5 T = ((cfg0.win 5).blk T).view.read (Elt Ideal)
      (spec (argX m c) (argW m c) (argB m c) (argRW m c) (argRB m c) : FVec Ideal S1024x16x256 .f32) := by
  rw [KernelIdeal.Value.flushed5]
  funext y
  have hN : cfg0.N = 32 := N_0
  have hT := T.isLt
  have h0 : win0_5.index T 0 = T.val := (by decide +kernel : ∀ t : Fin grid0.N, win0_5.index t 0 = t.val) T
  obtain ⟨b, w, t, rfl⟩ : ∃ (b : Fin 32) (w : Fin 16) (t : Fin 256), y = ix3 b w t := ⟨y 0, y 1, y 2, eq_ix3 y⟩
  show out0_5 (iblk m c 0 T) (iblk m c 1 T) (iblk m c 2 T) (iblk m c 3 T) (iblk m c 4 T) (ix3 b w t)
    = spec (argX m c) (argW m c) (argB m c) (argRW m c) (argRB m c) (((cfg0.win 5).blk T).view.emb (ix3 b w t))
  have hidx : ((cfg0.win 5).blk T).view.emb (ix3 b w t) = ix3 (⟨T.val * 32 + b.val, by omega⟩ : Fin 1024) w t := by
    funext a
    apply Fin.ext
    match a with
    | ⟨0, _⟩ => show win0_5.index T 0 * 32 + 1 * b.val = T.val * 32 + b.val; rw [h0]; omega
    | ⟨1, _⟩ => show 0 * 16 + 1 * w.val = w.val; omega
    | ⟨2, _⟩ => show 0 * 256 + 1 * t.val = t.val; omega
  rw [hidx, out5_eq]
  refine Eq.trans (congrArg _ ?_) ((point_apply m c T ⟨w.val, by omega⟩ b t ⟨T.val * 32 + b.val, by omega⟩ rfl).trans ?_)
  · funext a
    match a with
    | ⟨0, _⟩ => rfl
    | ⟨1, _⟩ => rfl
  · have hw := w.isLt
    exact head_congr (fun o => dif_pos hw) (dif_pos hw) fun o => rfl

/-- What grid point `T` writes of the second result is its block of the specification's second head. -/
theorem flushed_dur (T : Fin cfg0.N) :
    (dats m 0 c).flushed 6 T = ((cfg0.win 6).blk T).view.read (Elt Ideal)
      (spec (argX m c) (argW m c) (argB m c) (argDW m c) (argDB m c) : FVec Ideal S1024x32x256 .f32) := by
  rw [KernelIdeal.Value.flushed6]
  funext y
  have hN : cfg0.N = 32 := N_0
  have hT := T.isLt
  have h0 : win0_6.index T 0 = T.val := (by decide +kernel : ∀ t : Fin grid0.N, win0_6.index t 0 = t.val) T
  obtain ⟨b, w, t, rfl⟩ : ∃ (b : Fin 32) (w : Fin 32) (t : Fin 256), y = ix3 b w t := ⟨y 0, y 1, y 2, eq_ix3 y⟩
  show out0_6 (iblk m c 0 T) (iblk m c 1 T) (iblk m c 2 T) (iblk m c 3 T) (iblk m c 4 T) (ix3 b w t)
    = spec (argX m c) (argW m c) (argB m c) (argDW m c) (argDB m c) (((cfg0.win 6).blk T).view.emb (ix3 b w t))
  have hidx : ((cfg0.win 6).blk T).view.emb (ix3 b w t) = ix3 (⟨T.val * 32 + b.val, by omega⟩ : Fin 1024) w t := by
    funext a
    apply Fin.ext
    match a with
    | ⟨0, _⟩ => show win0_6.index T 0 * 32 + 1 * b.val = T.val * 32 + b.val; rw [h0]; omega
    | ⟨1, _⟩ => show 0 * 32 + 1 * w.val = w.val; omega
    | ⟨2, _⟩ => show 0 * 256 + 1 * t.val = t.val; omega
  rw [hidx, out6_eq]
  refine Eq.trans (congrArg _ ?_) ((point_apply m c T ⟨w.val + 16, by omega⟩ b t ⟨T.val * 32 + b.val, by omega⟩ rfl).trans ?_)
  · funext a
    match a with
    | ⟨0, _⟩ => rfl
    | ⟨1, _⟩ => rfl
  · have hw : ¬ w.val + 16 < 16 := by omega
    have e : (⟨w.val + 16 - 16, by omega⟩ : Fin 32) = w := Fin.ext (by simp)
    refine head_congr (fun o => (dif_neg hw).trans ?_) ((dif_neg hw).trans ?_) fun o => rfl
    · exact congrArg (fun r => argDW m c (ix3 r o 0)) e
    · exact congrArg (fun r => argDB m c (ix1 r)) e

/-- The 32 blocks cover the first result. -/
theorem cover_rel (i : S1024x16x256.Idx) :
    ∃ T : Fin cfg0.N, (cfg0.win 5).flush T = true ∧ i ∈ ((cfg0.win 5).blk T).view.set := by
  have hN : cfg0.N = 32 := N_0
  have i0 : (i 0).val < 1024 := (i 0).isLt
  have i1 : (i 1).val < 16 := (i 1).isLt
  have i2 : (i 2).val < 256 := (i 2).isLt
  have hT : (i 0).val / 32 < cfg0.N := by omega
  refine ⟨⟨(i 0).val / 32, hT⟩, flush0_5 _, ?_⟩
  have h0 : win0_5.index ⟨(i 0).val / 32, hT⟩ 0 = (i 0).val / 32 :=
    (by decide +kernel : ∀ t : Fin grid0.N, win0_5.index t 0 = t.val) ⟨(i 0).val / 32, hT⟩
  show i ∈ ((View.whole main_v15_0).slice (win0_5.rect ⟨(i 0).val / 32, hT⟩)).set
  rw [View.set_slice_whole, Rect.mem_set_unit]
  intro a
  match a with
  | ⟨0, _⟩ => show win0_5.index _ 0 * 32 ≤ (i 0).val ∧ (i 0).val < win0_5.index _ 0 * 32 + 32; rw [h0]; omega
  | ⟨1, _⟩ => show 0 * 16 ≤ (i 1).val ∧ (i 1).val < 0 * 16 + 16; omega
  | ⟨2, _⟩ => show 0 * 256 ≤ (i 2).val ∧ (i 2).val < 0 * 256 + 256; omega

/-- The 32 blocks cover the second result. -/
theorem cover_dur (i : S1024x32x256.Idx) :
    ∃ T : Fin cfg0.N, (cfg0.win 6).flush T = true ∧ i ∈ ((cfg0.win 6).blk T).view.set := by
  have hN : cfg0.N = 32 := N_0
  have i0 : (i 0).val < 1024 := (i 0).isLt
  have i1 : (i 1).val < 32 := (i 1).isLt
  have i2 : (i 2).val < 256 := (i 2).isLt
  have hT : (i 0).val / 32 < cfg0.N := by omega
  refine ⟨⟨(i 0).val / 32, hT⟩, flush0_6 _, ?_⟩
  have h0 : win0_6.index ⟨(i 0).val / 32, hT⟩ 0 = (i 0).val / 32 :=
    (by decide +kernel : ∀ t : Fin grid0.N, win0_6.index t 0 = t.val) ⟨(i 0).val / 32, hT⟩
  show i ∈ ((View.whole main_v15_1).slice (win0_6.rect ⟨(i 0).val / 32, hT⟩)).set
  rw [View.set_slice_whole, Rect.mem_set_unit]
  intro a
  match a with
  | ⟨0, _⟩ => show win0_6.index _ 0 * 32 ≤ (i 0).val ∧ (i 0).val < win0_6.index _ 0 * 32 + 32; rw [h0]; omega
  | ⟨1, _⟩ => show 0 * 32 ≤ (i 1).val ∧ (i 1).val < 0 * 32 + 32; omega
  | ⟨2, _⟩ => show 0 * 256 ≤ (i 2).val ∧ (i 2).val < 0 * 256 + 256; omega

/-- After the run the first result array holds the specification's first head of the arguments. -/
theorem final_rel : (dats m 0 c).arrAt 5 cfg0.N
    = (spec (argX m c) (argW m c) (argB m c) (argRW m c) (argRB m c) : FVec Ideal S1024x16x256 .f32) :=
  (dats m 0 c).arrAt_eq_of_cover 5 _ (fun T _ => flushed_rel m c T) cover_rel

/-- After the run the second result array holds the specification's second head of the arguments. -/
theorem final_dur : (dats m 0 c).arrAt 6 cfg0.N
    = (spec (argX m c) (argW m c) (argB m c) (argDW m c) (argDB m c) : FVec Ideal S1024x32x256 .f32) :=
  (dats m 0 c).arrAt_eq_of_cover 6 _ (fun T _ => flushed_dur m c T) cover_dur

end Cert.Dpn

end
-- ==== Proof.Reference.lean ====
/-
  What the reference computes, read at an index over the extended reals: the two heads of the specification.
-/
module

public import proofs.«01_k».proof.Proof.Spec
public import proofs.«01_k».proof.Proof.Gen.ReferenceIdeal.Read
public import Idealize.ShloMosaic.Lib.KernelVsHost

@[expose] public section

set_option maxRecDepth 16384

noncomputable section

namespace Cert.Dpn.Ref

open Idealize.ShloMosaic Idealize.SL.Sem
open Cert.ReferenceIdeal Cert.ReferenceIdeal.Gen Cert.ReferenceIdeal.Read

variable (x : FVec Ideal S1024x128x256 .f32) (w : FVec Ideal S128x128x3 .f32) (b : FVec Ideal S128 .f32)

/-- The padded samples at position `u` of the 258. -/
theorem pad_x (n : Fin 1024) (i : Fin 128) (u : Fin 258) :
    val_main_v0 (F := Ideal) x (ix3 n i u) = padded (fun s => x (ix3 n i s)) u.val := by
  pointwise [val_main_v0, val_main_call0_v0, val_main_c, padded]
  have h0 : FloatOps.sitofp (F := Ideal) .f32 (0#32) = 0 := by
    show (((0#32).toInt : ℝ) : EReal) = 0
    simp
  rw [h0]
  have hu := u.isLt
  by_cases h : 1 ≤ u.val ∧ u.val ≤ 256
  · rw [dif_pos h, dif_pos (by omega)]
  · rw [dif_neg h, dif_neg (by omega)]

/-- The positive part of the convolution: channel `o` of sample `n` at time `t`. -/
theorem hidden_apply (n : Fin 1024) (o : Fin 128) (t : Fin 256) :
    val_main_v21 (F := Ideal) x w b (ix3 n o t)
      = hidden (fun i s => x (ix3 n i s)) (fun i k => w (ix3 o i k)) (b (ix1 o)) t.val := by
  pointwise [val_main_v21, val_main_v20, val_main_v19, val_main_v18, val_main_v17, val_main_v16, val_main_v11, val_main_v10,
    val_main_v5, val_main_v15, val_main_v9, val_main_v4, val_main_v14, val_main_v8, val_main_v3, val_main_v13, val_main_v12, val_main_v7, val_main_v6,
    val_main_v2, val_main_v1, val_main_call1_v0, val_main_call1_cst, pad_x, hidden]
  rw [Nat.add_comm 1 t.val, Nat.add_comm 2 t.val]
  simp only [mul_comm (padded _ _)]

/-- Zero-width padding before the first head changes nothing. -/
theorem pad_rel : val_main_v22 (F := Ideal) x w b = val_main_v21 x w b := by
  funext j
  generalize hy : val_main_v21 (F := Ideal) x w b = y
  pointwise [val_main_v22, hy]

/-- Zero-width padding before the second head changes nothing. -/
theorem pad_dur : val_main_v29 (F := Ideal) x w b = val_main_v21 x w b := by
  funext j
  generalize hy : val_main_v21 (F := Ideal) x w b = y
  pointwise [val_main_v29, hy]

/-- The reference's first result is the specification's first head. -/
theorem rel_eq (hw : FVec Ideal S16x128x1 .f32) (hb : FVec Ideal S16 .f32) :
    val_main_v28 (F := Ideal) x w b hw hb = spec x w b hw hb := by
  funext j
  obtain ⟨n, r, t, rfl⟩ : ∃ (n : Fin 1024) (r : Fin 16) (t : Fin 256), j = ix3 n r t := ⟨j 0, j 1, j 2, eq_ix3 j⟩
  pointwise [val_main_v28, val_main_v27, val_main_v26, val_main_v25, val_main_v24, val_main_v23, pad_rel, hidden_apply, spec, head]
  simp only [mul_comm (hidden _ _ _ _)]

/-- The reference's second result is the specification's second head. -/
theorem dur_eq (hw : FVec Ideal S32x128x1 .f32) (hb : FVec Ideal S32 .f32) :
    val_main_v35 (F := Ideal) x w b hw hb = spec x w b hw hb := by
  funext j
  obtain ⟨n, r, t, rfl⟩ : ∃ (n : Fin 1024) (r : Fin 32) (t : Fin 256), j = ix3 n r t := ⟨j 0, j 1, j 2, eq_ix3 j⟩
  pointwise [val_main_v35, val_main_v34, val_main_v33, val_main_v32, val_main_v31, val_main_v30, pad_dur, hidden_apply, spec, head]
  simp only [mul_comm (hidden _ _ _ _)]

end Cert.Dpn.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Array
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs to the end, keeps its arguments and leaves every counter at zero (it declares none). -/
theorem frame_ri : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems rfl r.2⟩)
    (Cert.ReferenceIdeal.Value.run (F := Ideal) m ρ)

/-- Over the extended reals the kernel and the reference, given the same arguments, end with the same two results, and both
    keep their arguments: each result is the specification's head at the arguments. -/
theorem same_results : Cert.algebraic_KernelIdeal_ReferenceIdeal (hKernelIdeal := Cert.KernelIdeal.Gen.facts)
    (hReferenceIdeal := Cert.ReferenceIdeal.Gen.facts) := fun m ρ m' ρ' _ hargs =>
  ⟨fun c => Dpn.spec (Dpn.argX m c) (Dpn.argW m c) (Dpn.argB m c) (Dpn.argRW m c) (Dpn.argRB m c),
    fun c => Dpn.spec (Dpn.argX m c) (Dpn.argW m c) (Dpn.argB m c) (Dpn.argDW m c) (Dpn.argDB m c),
    (θ_run Cert.KernelIdeal.defs _ _).mono (fun _ h c =>
        ⟨(h c).1.trans (Dpn.final_rel m c), (h c).2.1.trans (Dpn.final_dur m c), (h c).2.2⟩)
      (Cert.KernelIdeal.Value.run_blocks (F := Ideal) m ρ),
    (θ_run Cert.ReferenceIdeal.defs _ _).mono (fun _ h c => by
        obtain ⟨h0, _, h2, h3, h4, h5, h6, h7⟩ := hargs c
        refine ⟨((h c).1.trans (Cert.ReferenceIdeal.Read.val_main_v28_eq _ _ _ _ _)).trans ?_,
          ((h c).2.1.trans (Cert.ReferenceIdeal.Read.val_main_v35_eq _ _ _ _ _)).trans ?_, (h c).2.2⟩
        · rw [h0, h2, h3, h4, h5]
          exact Dpn.Ref.rel_eq _ _ _ _ _
        · rw [h0, h2, h3, h6, h7]
          exact Dpn.Ref.dur_eq _ _ _ _ _)
      (Cert.ReferenceIdeal.Value.run (F := Ideal) m' ρ')⟩

/-- Everything claimed: the three frames, the idealization, and equal results over the extended reals. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_ri, trivial, same_results⟩

end Cert.Proof

end
